-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x64x32x32 : Shape := ⟨4, ![16, 64, 32, 32]⟩
abbrev S1024x64 : Shape := ⟨2, ![1024, 64]⟩
abbrev S16x64x1024 : Shape := ⟨3, ![16, 64, 1024]⟩
abbrev S16x1x1024 : Shape := ⟨3, ![16, 1, 1024]⟩
abbrev S2x64x1024 : Shape := ⟨3, ![2, 64, 1024]⟩
abbrev S2x1x1024 : Shape := ⟨3, ![2, 1, 1024]⟩
abbrev S1024 : Shape := ⟨1, ![1024]⟩
abbrev S1024x1 : Shape := ⟨2, ![1024, 1]⟩
abbrev S1x64x1024 : Shape := ⟨3, ![1, 64, 1024]⟩
abbrev S64x1024 : Shape := ⟨2, ![64, 1024]⟩
abbrev S1x1024 : Shape := ⟨2, ![1, 1024]⟩
abbrev S1024x1024 : Shape := ⟨2, ![1024, 1024]⟩
abbrev S1x1x1024 : Shape := ⟨3, ![1, 1, 1024]⟩
abbrev S16x32x32 : Shape := ⟨3, ![16, 32, 32]⟩

abbrev nBuf : Space → Nat
  | .hbm => 7
  | .vmem => 7
  | .smem => 0
  | _ => 0

abbrev bufTy : (tb : Table) → Fin (tcTables nBuf tb) → BufTy
  | .hbm, ⟨0, _⟩ => ⟨S16x64x32x32, .f32⟩
  | .hbm, ⟨1, _⟩ => ⟨S1024x64, .f32⟩
  | .hbm, ⟨2, _⟩ => ⟨S16x64x1024, .f32⟩
  | .hbm, ⟨3, _⟩ => ⟨S16x1x1024, .i32⟩
  | .hbm, ⟨4, _⟩ => ⟨S16x64x1024, .f32⟩
  | .hbm, ⟨5, _⟩ => ⟨S16x32x32, .i32⟩
  | .hbm, ⟨6, _⟩ => ⟨S16x64x32x32, .f32⟩
  | .local _ .vmem, ⟨0, _⟩ => ⟨S2x64x1024, .f32⟩
  | .local _ .vmem, ⟨1, _⟩ => ⟨S2x64x1024, .f32⟩
  | .local _ .vmem, ⟨2, _⟩ => ⟨S1024x64, .f32⟩
  | .local _ .vmem, ⟨3, _⟩ => ⟨S2x1x1024, .i32⟩
  | .local _ .vmem, ⟨4, _⟩ => ⟨S2x1x1024, .i32⟩
  | .local _ .vmem, ⟨5, _⟩ => ⟨S2x64x1024, .f32⟩
  | .local _ .vmem, ⟨6, _⟩ => ⟨S2x64x1024, .f32⟩
  | _, _ => ⟨S16x64x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x1x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S16x64x32x32 : Shape := ⟨4, ![16, 64, 32, 32]⟩
abbrev S1024x64 : Shape := ⟨2, ![1024, 64]⟩
abbrev S16x32x32x64 : Shape := ⟨4, ![16, 32, 32, 64]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1x1024 : Shape := ⟨2, ![1, 1024]⟩
abbrev S16384x1024 : Shape := ⟨2, ![16384, 1024]⟩
abbrev S64x1024 : Shape := ⟨2, ![64, 1024]⟩
abbrev S16x32x32 : Shape := ⟨3, ![16, 32, 32]⟩

abbrev nBuf : Space → Nat
  | .hbm => 37
  | .vmem => 0
  | .smem => 0
  | _ => 0

abbrev bufTy : (tb : Table) → Fin (tcTables nBuf tb) → BufTy
  | .hbm, ⟨0, _⟩ => ⟨S16x64x32x32, .f32⟩
  | .hbm, ⟨1, _⟩ => ⟨S1024x64, .f32⟩
  | .hbm, ⟨2, _⟩ => ⟨S16x32x32x64, .f32⟩
  | .hbm, ⟨3, _⟩ => ⟨S16384x64, .f32⟩
  | .hbm, ⟨4, _⟩ => ⟨S16384x64, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S1024x64, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S64x1024, .f32⟩
  | .hbm, ⟨16, _⟩ => ⟨S16384x1024, .f32⟩
  | .hbm, ⟨17, _⟩ => ⟨S_, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .i32⟩
  | .hbm, ⟨22, _⟩ => ⟨S_, .f32⟩
  | .hbm, ⟨23, _⟩ => ⟨S_, .i32⟩
  | .hbm, ⟨24, _⟩ => ⟨S16384, .f32⟩
  | .hbm, ⟨25, _⟩ => ⟨S16384, .i32⟩
  | .hbm, ⟨26, _⟩ => ⟨S16x32x32, .i32⟩
  | .hbm, ⟨27, _⟩ => ⟨S16384, .i32⟩
  | .hbm, ⟨28, _⟩ => ⟨S16384x1, .i32⟩
  | .hbm, ⟨29, _⟩ => ⟨S1x1024, .i32⟩
  | .hbm, ⟨30, _⟩ => ⟨S16384x1024, .i32⟩
  | .hbm, ⟨31, _⟩ => ⟨S16384x1024, .i32⟩
  | .hbm, ⟨32, _⟩ => ⟨S16384x1024, .i1⟩
  | .hbm, ⟨33, _⟩ => ⟨S16384x1024, .f32⟩
  | .hbm, ⟨34, _⟩ => ⟨S16384x64, .f32⟩
  | .hbm, ⟨35, _⟩ => ⟨S16x32x32x64, .f32⟩
  | .hbm, ⟨36, _⟩ => ⟨S16x64x32x32, .f32⟩
  | _, _ => ⟨S16x64x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩

abbrev nD : Nat := 1
abbrev τ : Topo := Topo.v7x

variable {F : FTy → Type} [FloatOps F]
-- ==== Proof.Nearest.lean ====
module

public import Idealize.ShloMosaic.Lib.Pointwise

@[expose] public section

noncomputable section

namespace Cert.Vq

open Idealize.ShloMosaic

/-! # The nearest code

The mathematics of the problem over the extended reals, without any program: the squared distance of a
vector to a code, the first code attaining the smallest distance, and the three ways the programs reach that
code — the smallest value, the smallest position holding it, and a fold over (value, position) pairs. -/

/-- The squared distance of the vector `z` to the code `c`, written out as `|z|² + |c|² - 2 z·c`. -/
def sqDist (z c : Fin 64 → EReal) : EReal :=
  (∑ d, z d * z d + ∑ d, c d * c d) - 2 * ∑ d, z d * c d

/-- The positions at which `f` is smallest. -/
def smallest (f : Fin 1024 → EReal) : Finset (Fin 1024) :=
  Finset.univ.filter fun k => ∀ j, f k ≤ f j

/-- Some position holds the smallest value. -/
theorem smallest_nonempty (f : Fin 1024 → EReal) : (smallest f).Nonempty := by
  obtain ⟨k, _, hk⟩ := Finset.exists_min_image Finset.univ f ⟨0, Finset.mem_univ _⟩
  exact ⟨k, by simpa [smallest] using hk⟩

/-- The first position at which `f` is smallest. -/
def nearest (f : Fin 1024 → EReal) : Fin 1024 := (smallest f).min' (smallest_nonempty f)

/-- The value at the first smallest position is at most every value. -/
theorem nearest_le (f : Fin 1024 → EReal) (j : Fin 1024) : f (nearest f) ≤ f j := by
  have h := (smallest f).min'_mem (smallest_nonempty f)
  simp only [smallest, Finset.mem_filter] at h
  exact h.2 j

/-- Every position holding the smallest value is at or after the first one. -/
theorem nearest_first (f : Fin 1024 → EReal) (k : Fin 1024) (h : f k = f (nearest f)) : nearest f ≤ k := by
  refine Finset.min'_le _ _ ?_
  simp only [smallest, Finset.mem_filter, Finset.mem_univ, true_and]
  intro j
  rw [h]
  exact nearest_le f j

/-- A position whose value is at most every value, and which is at or before every position of equal value, is
    the first smallest position. -/
theorem eq_nearest (f : Fin 1024 → EReal) (k : Fin 1024) (hle : ∀ j, f k ≤ f j)
    (hfirst : ∀ j, f j = f k → k ≤ j) : k = nearest f := by
  have he : f k = f (nearest f) := le_antisymm (hle _) (nearest_le f k)
  exact le_antisymm (hfirst _ he.symm) (nearest_first f k he)

/-- The running minimum of `f` from `⊤` is its smallest value. -/
theorem fold_min_eq (f : Fin 1024 → EReal) : Finset.univ.fold min ⊤ f = f (nearest f) := by
  apply le_antisymm
  · exact Finset.fold_min_le _ |>.mpr (Or.inr ⟨nearest f, Finset.mem_univ _, le_rfl⟩)
  · exact Finset.le_fold_min _ |>.mpr ⟨le_top, fun j _ => nearest_le f j⟩

/-- Writing `1024` at every position but those of the smallest value, the running minimum of the positions is the
    first smallest position. -/
theorem fold_position_eq (f : Fin 1024 → EReal) :
    Finset.univ.fold min ⊤
        (fun k : Fin 1024 => if f k = f (nearest f) then (((k.val : ℝ)) : EReal) else ((1024 : ℝ) : EReal))
      = (((nearest f).val : ℝ) : EReal) := by
  have hlt : (((nearest f).val : ℝ) : EReal) ≤ ((1024 : ℝ) : EReal) := by
    rw [EReal.coe_le_coe_iff]
    exact_mod_cast (nearest f).isLt.le
  apply le_antisymm
  · refine Finset.fold_min_le _ |>.mpr (Or.inr ⟨nearest f, Finset.mem_univ _, ?_⟩)
    rw [if_pos rfl]
  · refine Finset.le_fold_min _ |>.mpr ⟨le_top, fun k _ => ?_⟩
    split_ifs with h
    · rw [EReal.coe_le_coe_iff]
      exact_mod_cast nearest_first f k h
    · exact hlt

/-! ## The fold over (value, position) pairs -/

/-- The lesser of two pairs: the lesser value, and on equal values the lesser signed position. -/
def lesser (a b : EReal × BitVec 32) : EReal × BitVec 32 :=
  if a.1 < b.1 ∨ (a.1 = b.1 ∧ a.2.toInt < b.2.toInt) then a else b

/-- `a` comes at or before `b`: a lesser value, or an equal value and a position not greater. -/
def AtMost (a b : EReal × BitVec 32) : Prop := a.1 < b.1 ∨ (a.1 = b.1 ∧ a.2.toInt ≤ b.2.toInt)

theorem AtMost.refl (a : EReal × BitVec 32) : AtMost a a := Or.inr ⟨rfl, le_rfl⟩

theorem AtMost.trans {a b c : EReal × BitVec 32} (h : AtMost a b) (k : AtMost b c) : AtMost a c := by
  rcases h with h | ⟨h, h'⟩ <;> rcases k with k | ⟨k, k'⟩
  · exact Or.inl (h.trans k)
  · exact Or.inl (k ▸ h)
  · exact Or.inl (h ▸ k)
  · exact Or.inr ⟨h.trans k, h'.trans k'⟩

/-- The lesser pair comes at or before both. -/
theorem lesser_atMost (a b : EReal × BitVec 32) : AtMost (lesser a b) a ∧ AtMost (lesser a b) b := by
  unfold lesser
  split_ifs with h
  · refine ⟨AtMost.refl a, ?_⟩
    rcases h with h | ⟨h, h'⟩
    · exact Or.inl h
    · exact Or.inr ⟨h, h'.le⟩
  · refine ⟨?_, AtMost.refl b⟩
    push Not at h
    rcases lt_or_eq_of_le h.1 with h' | h'
    · exact Or.inl h'
    · exact Or.inr ⟨h', h.2 h'.symm⟩

/-- The lesser pair is one of the two. -/
theorem lesser_or (a b : EReal × BitVec 32) : lesser a b = a ∨ lesser a b = b := by
  unfold lesser
  split_ifs
  · exact Or.inl rfl
  · exact Or.inr rfl

/-- The fold of `lesser` over a list is one of the pairs met, and comes at or before each of them. -/
theorem foldl_lesser (l : List (EReal × BitVec 32)) (a : EReal × BitVec 32) :
    (l.foldl lesser a ∈ a :: l) ∧ ∀ q ∈ a :: l, AtMost (l.foldl lesser a) q := by
  induction l generalizing a with
  | nil => simp [AtMost.refl]
  | cons b l ih =>
    obtain ⟨hm, hq⟩ := ih (lesser a b)
    have h0 := hq _ (List.mem_cons_self ..)
    refine ⟨?_, fun q hmem => ?_⟩
    · rw [List.foldl_cons]
      rcases List.mem_cons.mp hm with h | h
      · rw [h]
        rcases lesser_or a b with e | e <;> rw [e] <;> simp
      · exact List.mem_cons_of_mem _ (List.mem_cons_of_mem _ h)
    · rw [List.foldl_cons]
      rcases List.mem_cons.mp hmem with rfl | h
      · exact h0.trans (lesser_atMost _ _).1
      · rcases List.mem_cons.mp h with rfl | h
        · exact h0.trans (lesser_atMost _ _).2
        · exact hq _ (List.mem_cons_of_mem _ h)

/-- A position below 1024, as a 32-bit word, reads back as itself. -/
theorem toInt_position (k : Fin 1024) : (BitVec.ofNat 32 k.val).toInt = (k.val : ℤ) := by
  have := k.isLt
  rw [BitVec.toInt_eq_toNat_cond, BitVec.toNat_ofNat, Nat.mod_eq_of_lt (by omega), if_pos (by omega)]

/-- Folding `lesser` from `(⊤, 0)` over any list made of the pairs of `f`'s values and positions ends at the first
    smallest position of `f`. -/
theorem foldl_lesser_nearest (f : Fin 1024 → EReal) (l : List (EReal × BitVec 32))
    (hl : ∀ q, q ∈ l ↔ ∃ k : Fin 1024, (f k, BitVec.ofNat 32 k.val) = q) :
    (l.foldl lesser (⊤, 0#32)).2 = BitVec.ofNat 32 (nearest f).val := by
  obtain ⟨hm, hq⟩ := foldl_lesser l (⊤, 0#32)
  have hle : ∀ k : Fin 1024, AtMost (l.foldl lesser (⊤, 0#32)) (f k, BitVec.ofNat 32 k.val) := fun k =>
    hq _ (List.mem_cons_of_mem _ ((hl _).mpr ⟨k, rfl⟩))
  have hex : ∃ k : Fin 1024, (f k, BitVec.ofNat 32 k.val) = l.foldl lesser (⊤, 0#32) := by
    rcases List.mem_cons.mp hm with h | h
    · refine ⟨0, ?_⟩
      have h0 := hle 0
      rw [h] at h0 ⊢
      rcases h0 with h0 | ⟨h0, _⟩
      · exact absurd h0 not_top_lt
      · exact Prod.ext h0.symm rfl
    · exact (hl _).mp h
  obtain ⟨k, hk⟩ := hex
  rw [← hk]
  show BitVec.ofNat 32 k.val = _
  rw [eq_nearest f k]
  · intro j
    have := hle j
    rw [← hk] at this
    rcases this with h | ⟨h, _⟩
    · exact h.le
    · exact h.le
  · intro j hj
    have := hle j
    rw [← hk] at this
    rcases this with h | ⟨_, h⟩
    · exact absurd h (by rw [hj]; exact lt_irrefl _)
    · simp only [toInt_position] at h
      exact_mod_cast h

/-! ## Small facts of arithmetic -/

/-- A doubled code times a vector is twice their product: the doubling leaves the sum. -/
theorem sum_double (z c : Fin 64 → EReal) : ∑ d, (c d + c d) * z d = 2 * ∑ d, z d * c d := by
  have key : ∀ x : EReal, x + x = 2 * x := fun x => by
    rw [← one_add_one_eq_two, EReal.right_distrib_of_nonneg zero_le_one zero_le_one, one_mul]
  rw [← key, ← Finset.sum_add_distrib]
  refine Finset.sum_congr rfl fun d _ => ?_
  rw [key, key, mul_assoc, mul_comm (c d)]

/-- A column of the codebook against the indicator of one position is the entry at that position. -/
theorem sum_indicator (v : Fin 1024 → EReal) (n : Fin 1024) :
    ∑ k, v k * (if k = n then 1 else 0) = v n := by
  simp

end Cert.Vq
-- ==== Proof.Words.lean ====
module

public import proofs.«01_k».proof.Proof.Nearest
public import Idealize.ShloMosaic.Lib.Pointwise

@[expose] public section

noncomputable section

namespace Cert.Vq

open Idealize.ShloMosaic

/-! # The words the programs use

The constants both programs write as 32-bit patterns, and the conversions between a position's word and the
float holding it, read as extended reals. -/

/-- The pattern `0x7F800000` is the top element. -/
theorem ofBits_inf : Ideal.ofBits FTy.f32 2139095040#32 = (⊤ : EReal) := by simp [Ideal.ofBits, Ideal.ieee]

/-- The pattern `0x44800000` is 1024. -/
theorem ofBits_1024 : Ideal.ofBits FTy.f32 1149239296#32 = ((1024 : ℝ) : EReal) := by
  simp [Ideal.ofBits, Ideal.ieee]
  norm_cast
  norm_num

/-- The pattern `0x40000000` is 2. -/
theorem ofBits_two : Ideal.ofBits FTy.f32 1073741824#32 = (2 : EReal) := by
  simp [Ideal.ofBits, Ideal.ieee]
  norm_cast
  norm_num
  rfl

/-- A position's word, converted to a float, is the position. -/
theorem sitofp_position (k : Fin 1024) :
    (FloatOps.sitofp FTy.f32 (BitVec.ofNat 32 k.val) : Ideal .f32) = (((k.val : ℝ)) : EReal) := by
  show ((((BitVec.ofNat 32 k.val).toInt : ℝ)) : EReal) = _
  rw [toInt_position]
  norm_cast

/-- A position held as a float converts back to its word. -/
theorem fptosi_position (k : Fin 1024) :
    (FloatOps.fptosi (F := Ideal) (φ := .f32) 32 (((k.val : ℝ)) : EReal)) = BitVec.ofNat 32 k.val := by
  have hk := k.isLt
  have h0 : (0 : ℝ) ≤ (k.val : ℝ) := Nat.cast_nonneg _
  show BitVec.ofInt 32 (Ideal.toIntClamped _ _ (((k.val : ℝ)) : EReal)) = _
  rw [← BitVec.ofInt_natCast]
  congr 1
  show max _ (min _ (if 0 ≤ (k.val : ℝ) then ⌊(k.val : ℝ)⌋ else ⌈(k.val : ℝ)⌉)) = (k.val : ℤ)
  rw [if_pos h0, Int.floor_natCast]
  norm_num
  omega

/-- Two positions held as floats are equal exactly when they are the same position. -/
theorem position_eq_iff (k n : Fin 1024) : (((k.val : ℝ)) : EReal) = (((n.val : ℝ)) : EReal) ↔ k = n := by
  rw [EReal.coe_eq_coe_iff, Nat.cast_inj, Fin.ext_iff]

/-- Two positions' words are equal exactly when they are the same position. -/
theorem word_eq_iff (k n : Fin 1024) : BitVec.ofNat 32 k.val = BitVec.ofNat 32 n.val ↔ k = n := by
  constructor
  · intro h
    have := congrArg BitVec.toInt h
    rw [toInt_position, toInt_position] at this
    exact Fin.ext (by exact_mod_cast this)
  · rintro rfl; rfl

/-- A truth bit widened to a word and converted to a float is 1 or 0. -/
theorem sitofp_bit (q : Prop) [Decidable q] :
    (FloatOps.sitofp FTy.f32 (BitVec.setWidth 32 (BitVec.ofBool (decide q))) : Ideal .f32)
      = ((if q then 1 else 0 : EReal)) := by
  show ((((BitVec.setWidth 32 (BitVec.ofBool (decide q))).toInt : ℝ)) : EReal) = _
  by_cases h : q <;> simp [h]

end Cert.Vq
-- ==== Proof.Block.lean ====
module

public import proofs.«01_k».proof.Defs
public import proofs.«01_k».proof.Proof.Gen.KernelIdeal.Frame
public import proofs.«01_k».proof.Proof.Words
public import Idealize.ShloMosaic.Lib.Pointwise

@[expose] public section

set_option maxRecDepth 16384

noncomputable section

namespace Cert.Vq

open Idealize.ShloMosaic Cert.KernelIdeal Cert.KernelIdeal.Gen

/-! # What the kernel computes of one image

The kernel holds an image as 64 channels by 1024 pixels. Over that one image and the codebook, its values are
stated here through `nearest`. -/

/-- The vector of pixel `p` in an image held as one block of 64 channels by 1024 pixels. -/
def pixel (v : S1x64x1024.Idx → EReal) (p : Fin 1024) : Fin 64 → EReal := fun d => v (ix3 0 d p)

/-- Row `k` of the codebook. -/
def codeRow (cb : S1024x64.Idx → EReal) (k : Fin 1024) : Fin 64 → EReal := fun d => cb (ix2 k d)

/-- The first code nearest to the vector `z`. -/
def nearestCode (cb : S1024x64.Idx → EReal) (z : Fin 64 → EReal) : Fin 1024 :=
  nearest fun k => sqDist z (codeRow cb k)

/-- The kernel's float position at pixel `p`: the first nearest code. -/
theorem position_at (cb : S1024x64.Idx → EReal) (v : S1x64x1024.Idx → EReal) (p : Fin 1024) :
    k0_pay7 (F := Ideal) cb v (ix2 0 p) = (((nearestCode cb (pixel v p)).val : ℝ) : EReal) := by
  have hd : ∀ k : Fin 1024,
      ∑ x, v (ix3 0 x p) * v (ix3 0 x p) + ∑ x, cb (ix2 k x) * cb (ix2 k x)
        - ∑ x, (cb (ix2 k x) + cb (ix2 k x)) * v (ix3 0 x p) = sqDist (pixel v p) (codeRow cb k) := fun k => by
    unfold sqDist
    rw [← sum_double]
    rfl
  unfold_payloads
  pointwise
  simp only [hd, ofBits_inf, ofBits_1024, sitofp_position]
  simp only [fold_min_eq fun k => sqDist (pixel v p) (codeRow cb k)]
  exact fold_position_eq _

/-- The first result at pixel `p`: the word of the first nearest code. -/
theorem word_at (cb : S1024x64.Idx → EReal) (v : S1x64x1024.Idx → EReal) (p : Fin 1024) :
    k0_pay8 (F := Ideal) cb v (ix3 0 0 p) = BitVec.ofNat 32 (nearestCode cb (pixel v p)).val := by
  unfold k0_pay8
  pointwise
  rw [position_at]
  exact fptosi_position _

/-- The second result at channel `j` and pixel `p`: the first nearest code's entry at `j`. -/
theorem entry_at (cb : S1024x64.Idx → EReal) (v : S1x64x1024.Idx → EReal) (j : Fin 64) (p : Fin 1024) :
    k0_pay9 (F := Ideal) cb v (ix3 0 j p) = cb (ix2 (nearestCode cb (pixel v p)) j) := by
  unfold k0_pay9 k0_pay6
  pointwise
  simp only [position_at, sitofp_position, position_eq_iff, sitofp_bit]
  exact sum_indicator (fun k => cb (ix2 k j)) _

/-- The second image's float position is computed as the first's: the same expression of its own image. -/
theorem second_position (cb : S1024x64.Idx → EReal) (v : S1x64x1024.Idx → EReal) :
    k0_pay1 (F := Ideal) (k0_pay4 cb) (k0_pay5 cb) k0_pay6 v = k0_pay7 (F := Ideal) cb v := rfl

/-- The second image's first result is computed as the first's. -/
theorem second_word (cb : S1024x64.Idx → EReal) (v : S1x64x1024.Idx → EReal) :
    k0_pay2 (F := Ideal) (k0_pay4 cb) (k0_pay5 cb) k0_pay6 v = k0_pay8 (F := Ideal) cb v := rfl

/-- The second image's second result is computed as the first's. -/
theorem second_entry (cb : S1024x64.Idx → EReal) (v : S1x64x1024.Idx → EReal) :
    k0_pay3 (F := Ideal) cb (k0_pay4 cb) (k0_pay5 cb) k0_pay6 v = k0_pay9 (F := Ideal) cb v := rfl

end Cert.Vq
-- ==== Proof.Arrays.lean ====
module

public import proofs.«01_k».proof.Defs
public import proofs.«01_k».proof.Proof.Gen.KernelIdeal.Frame
public import proofs.«01_k».proof.Proof.Block
public import Idealize.ShloMosaic.Lib.Pointwise
public import Idealize.ShloMosaic.Lib.Claim
public import Idealize.ShloMosaic.Lib.Pipeline.ValueKit

@[expose] public section

set_option maxRecDepth 16384

noncomputable section

namespace Cert.Vq

open Idealize.ShloMosaic Idealize.SL.Sem Idealize.ShloMosaic.TcCoe Cert.KernelIdeal Cert.KernelIdeal.Gen

/-! # What the kernel's two arrays hold

The grid has eight points, two images each. Joined over the grid, the two output arrays hold, for every one of
the sixteen images and every pixel, the word of the first nearest code and that code's row. -/

/-- The word array of a stack of sixteen images. -/
def words (cb : S1024x64.Idx → EReal) (x : S16x64x1024.Idx → EReal) : S16x1x1024.Idx → BitVec 32 :=
  fun i => BitVec.ofNat 32 (nearestCode cb fun d => x (ix3 (i 0) d (i 2))).val

/-- The array of code rows of a stack of sixteen images. -/
def rows (cb : S1024x64.Idx → EReal) (x : S16x64x1024.Idx → EReal) : S16x64x1024.Idx → EReal :=
  fun i => cb (ix2 (nearestCode cb fun d => x (ix3 (i 0) d (i 2))) (i 1))

variable (m : (ℓ : Loc nD τ sig) → Buf (Elt Ideal) ℓ) (c : Dev nD)

/-- The sixteen images as the kernel receives them: the input with its two pixel axes merged. -/
def stack : S16x64x1024.Idx → EReal :=
  shapeCast S16x64x1024 (m ((c.tc : Thread nD τ).loc main_arg0)) shapeCasts_S16x64x32x32_S16x64x1024

/-- The codebook. -/
def codebook : S1024x64.Idx → EReal := m ((c.tc : Thread nD τ).loc main_arg1)

/-- Which block each window holds at each grid point: the images and the results move with the point, the
    codebook stays. -/
theorem block_indices : ∀ t : Fin cfg0.N,
    (win0_0.index t 0 = t.val ∧ win0_0.index t 1 = 0 ∧ win0_0.index t 2 = 0)
      ∧ (win0_1.index t 0 = 0 ∧ win0_1.index t 1 = 0)
      ∧ (win0_2.index t 0 = t.val ∧ win0_2.index t 1 = 0 ∧ win0_2.index t 2 = 0)
      ∧ (win0_3.index t 0 = t.val ∧ win0_3.index t 1 = 0 ∧ win0_3.index t 2 = 0) := by decide +kernel

/-- The codebook's block is the whole codebook at every grid point. -/
theorem code_block (t : Fin cfg0.N) : iblk m c 1 t = codebook m c := by
  funext j
  idx_vars j
  obtain ⟨_, ⟨h0, h1⟩, _⟩ := block_indices t
  unfold codebook
  blk_point [iblk]
  all_goals simp only [h0, h1]; omega

/-- The images' block at grid point `t` holds images `2t` and `2t + 1`. -/
theorem image_block (t : Fin cfg0.N) (a : Fin 2) (d : Fin 64) (p : Fin 1024) (b : Fin 16)
    (hb : b.val = 2 * t.val + a.val) : iblk m c 0 t (ix3 a d p) = stack m c (ix3 b d p) := by
  obtain ⟨⟨h0, h1, h2⟩, _⟩ := block_indices t
  unfold stack
  blk_point [iblk]
  all_goals simp only [h0, h1, h2]; omega

/-- The first image of the block at grid point `t` is image `2t`. -/
theorem first_image (t : Fin cfg0.N) (p : Fin 1024) (b : Fin 16) (hb : b.val = 2 * t.val) :
    pixel (View.ld (iblk m c 0 t) r0_1) p = fun d => stack m c (ix3 b d p) := by
  funext d
  unfold pixel
  rw [← image_block m c t 0 d p b hb]
  pointwise

/-- The second image of the block at grid point `t` is image `2t + 1`. -/
theorem second_image (t : Fin cfg0.N) (p : Fin 1024) (b : Fin 16) (hb : b.val = 2 * t.val + 1) :
    pixel (View.ld (iblk m c 0 t) r0_3) p = fun d => stack m c (ix3 b d p) := by
  funext d
  unfold pixel
  rw [← image_block m c t 1 d p b hb]
  pointwise

/-- Where the word block of grid point `t` lies in the word array. -/
theorem words_place (t : Fin cfg0.N) (y0 : Fin 2) (y1 : Fin 1) (y2 : Fin 1024) (b : Fin 16)
    (hb : b.val = 2 * t.val + y0.val) :
    ((View.whole main_v1_0).slice (win0_2.rect t)).emb (ix3 y0 y1 y2) = ix3 b 0 y2 := by
  obtain ⟨_, _, ⟨h0, h1, h2⟩, _⟩ := block_indices t
  funext a
  apply Fin.ext
  match a with
  | ⟨0, _⟩ => blk_simp [h0]; omega
  | ⟨1, _⟩ => blk_simp [h1]; rfl
  | ⟨2, _⟩ => blk_simp [h2]

/-- Where the row block of grid point `t` lies in the array of rows. -/
theorem rows_place (t : Fin cfg0.N) (y0 : Fin 2) (y1 : Fin 64) (y2 : Fin 1024) (b : Fin 16)
    (hb : b.val = 2 * t.val + y0.val) :
    ((View.whole main_v1_1).slice (win0_3.rect t)).emb (ix3 y0 y1 y2) = ix3 b y1 y2 := by
  obtain ⟨_, _, _, ⟨h0, h1, h2⟩⟩ := block_indices t
  funext a
  apply Fin.ext
  match a with
  | ⟨0, _⟩ => blk_simp [h0]; omega
  | ⟨1, _⟩ => blk_simp [h1]
  | ⟨2, _⟩ => blk_simp [h2]

/-- Reading the whole codebook is the codebook. -/
theorem ld_codebook (cb : S1024x64.Idx → EReal) : View.ld (Val := Elt Ideal) (e' := .f32) cb r0_0 = cb := by
  funext j
  idx_vars j
  pointwise

/-- The second image's words, over the blocks of a grid point. -/
theorem second_word_at (x0 : S2x64x1024.Idx → EReal) (cb : S1024x64.Idx → EReal) (v : S1x64x1024.Idx → EReal)
    (p : Fin 1024) :
    k0_pay2 (F := Ideal) (k0_pay10 x0 cb) (k0_pay11 x0 cb) (k0_pay12 x0 cb) v (ix3 0 0 p)
      = BitVec.ofNat 32 (nearestCode cb (pixel v p)).val := by
  unfold k0_pay10 k0_pay11 k0_pay12
  rw [ld_codebook, second_word, word_at]

/-- The second image's rows, over the blocks of a grid point. -/
theorem second_entry_at (x0 : S2x64x1024.Idx → EReal) (cb : S1024x64.Idx → EReal) (v : S1x64x1024.Idx → EReal)
    (j : Fin 64) (p : Fin 1024) :
    k0_pay3 (F := Ideal) cb (k0_pay10 x0 cb) (k0_pay11 x0 cb) (k0_pay12 x0 cb) v (ix3 0 j p)
      = cb (ix2 (nearestCode cb (pixel v p)) j) := by
  unfold k0_pay10 k0_pay11 k0_pay12
  rw [ld_codebook, second_entry, entry_at]

/-- The word array after the last grid point. -/
theorem words_array : (dats m 0 c).arrAt 2 (cfgs 0).N = words (codebook m c) (stack m c) := by
  refine (dats m 0 c).arrAt_eq_of_covers 2 _ (by decide +kernel) fun t hf y => ?_
  blk_simp
  rw [after0_2]
  idx_vars y
  have ht : t.val < 8 := t.isLt
  have hy0 := y0.isLt
  rw [words_place t y0 y1 y2 ⟨2 * t.val + y0.val, by omega⟩ rfl]
  frame_out
  rw [code_block]
  canon_tiles x h
  · idx_vars x
    have e : x2 = y2 := Fin.ext h2.symm
    subst e
    rw [Subsingleton.elim x0 0, Subsingleton.elim x1 0, second_word_at]
    have hb : 2 * t.val + y0.val = 2 * t.val + 1 := by omega
    exact congrArg (fun z => BitVec.ofNat 32 (nearestCode (codebook m c) z).val)
      (second_image m c t x2 ⟨2 * t.val + y0.val, by omega⟩ hb)
  · idx_vars x
    have e : x2 = y2 := Fin.ext h2.symm
    subst e
    rw [Subsingleton.elim x0 0, Subsingleton.elim x1 0, word_at]
    have hb : 2 * t.val + y0.val = 2 * t.val := by omega
    exact congrArg (fun z => BitVec.ofNat 32 (nearestCode (codebook m c) z).val)
      (first_image m c t x2 ⟨2 * t.val + y0.val, by omega⟩ hb)

/-- The array of rows after the last grid point. -/
theorem rows_array : (dats m 0 c).arrAt 3 (cfgs 0).N = rows (codebook m c) (stack m c) := by
  refine (dats m 0 c).arrAt_eq_of_covers 3 _ (by decide +kernel) fun t hf y => ?_
  blk_simp
  rw [after0_3]
  idx_vars y
  have ht : t.val < 8 := t.isLt
  have hy0 := y0.isLt
  rw [rows_place t y0 y1 y2 ⟨2 * t.val + y0.val, by omega⟩ rfl]
  frame_out
  rw [code_block]
  canon_tiles x h
  · idx_vars x
    have e : x2 = y2 := Fin.ext h2.symm
    subst e
    have e : x1 = y1 := Fin.ext h1.symm
    subst e
    rw [Subsingleton.elim x0 0, second_entry_at]
    have hb : 2 * t.val + y0.val = 2 * t.val + 1 := by omega
    exact congrArg (fun z => codebook m c (ix2 (nearestCode (codebook m c) z) x1))
      (second_image m c t x2 ⟨2 * t.val + y0.val, by omega⟩ hb)
  · idx_vars x
    have e : x2 = y2 := Fin.ext h2.symm
    subst e
    have e : x1 = y1 := Fin.ext h1.symm
    subst e
    rw [Subsingleton.elim x0 0, entry_at]
    have hb : 2 * t.val + y0.val = 2 * t.val := by omega
    exact congrArg (fun z => codebook m c (ix2 (nearestCode (codebook m c) z) x1))
      (first_image m c t x2 ⟨2 * t.val + y0.val, by omega⟩ hb)

end Cert.Vq
-- ==== Proof.Spec.lean ====
module

public import proofs.«01_k».proof.Proof.Block

@[expose] public section

noncomputable section

namespace Cert.Vq

open Idealize.ShloMosaic

/-! # The two results

For an input of 16 images with 64 channels and 32 by 32 pixels, and a codebook of 1024 codes: the word of the
first code nearest to each pixel's vector, and that code's entries in the pixel's channels. -/

/-- The vector of one pixel: its 64 channels. -/
def vectorAt (x : (⟨4, ![16, 64, 32, 32]⟩ : Shape).Idx → EReal) (b : Fin 16) (h w : Fin 32) : Fin 64 → EReal :=
  fun d => x (ix4 b d h w)

/-- The first result: at every pixel, the word of the first nearest code. -/
def zis (x : (⟨4, ![16, 64, 32, 32]⟩ : Shape).Idx → EReal) (cb : (⟨2, ![1024, 64]⟩ : Shape).Idx → EReal) :
    (⟨3, ![16, 32, 32]⟩ : Shape).Idx → BitVec 32 :=
  fun j => BitVec.ofNat 32 (nearestCode cb (vectorAt x (j 0) (j 1) (j 2))).val

/-- The second result: at every pixel and channel, the first nearest code's entry of that channel. -/
def zqs (x : (⟨4, ![16, 64, 32, 32]⟩ : Shape).Idx → EReal) (cb : (⟨2, ![1024, 64]⟩ : Shape).Idx → EReal) :
    (⟨4, ![16, 64, 32, 32]⟩ : Shape).Idx → EReal :=
  fun j => cb (ix2 (nearestCode cb (vectorAt x (j 0) (j 2) (j 3))) (j 1))

end Cert.Vq
-- ==== Proof.KernelRun.lean ====
module

public import proofs.«01_k».proof.Proof.Arrays
public import proofs.«01_k».proof.Proof.Spec

@[expose] public section

set_option maxRecDepth 16384

noncomputable section

namespace Cert.Vq

open Idealize.ShloMosaic Idealize.SL.Sem Idealize.ShloMosaic.TcCoe Cert.KernelIdeal Cert.KernelIdeal.Gen

/-! # The kernel's run

After the grid, two reshapes split the merged pixel axis again. What the whole program ends with is `zis` and
`zqs` of its arguments. -/

variable (m : (ℓ : Loc nD τ sig) → Buf (Elt Ideal) ℓ) (c : Dev nD)

/-- A pixel's vector read off the merged axis. -/
theorem stack_at (b : Fin 16) (h w : Fin 32) (p : Fin 1024) (hp : p.val = h.val * 32 + w.val) :
    (fun d => stack m c (ix3 b d p)) = vectorAt (m ((c.tc : Thread nD τ).loc main_arg0)) b h w := by
  funext d
  unfold stack vectorAt
  pointwise
  have hw := w.isLt
  congr 2
  · exact Fin.ext (by simp only [hp]; omega)
  · exact Fin.ext (by simp only [hp]; omega)

/-- The first result is the word array with the pixel axis split. -/
theorem zis_of_words : shapeCast S16x32x32 (words (codebook m c) (stack m c)) shapeCasts_S16x1x1024_S16x32x32
    = zis (m ((c.tc : Thread nD τ).loc main_arg0)) (codebook m c) := by
  funext j
  idx_vars j
  pointwise
  exact congrArg (fun z => BitVec.ofNat 32 (nearestCode (codebook m c) z).val) (stack_at m c j0 j1 j2 _ rfl)

/-- The second result is the array of rows with the pixel axis split. -/
theorem zqs_of_rows : shapeCast S16x64x32x32 (rows (codebook m c) (stack m c)) shapeCasts_S16x64x1024_S16x64x32x32
    = zqs (m ((c.tc : Thread nD τ).loc main_arg0)) (codebook m c) := by
  funext j
  idx_vars j
  pointwise
  exact congrArg (fun z => codebook m c (ix2 (nearestCode (codebook m c) z) j1)) (stack_at m c j0 j2 j3 _ rfl)

/-- The contents of the core's buffers when the grid is done. -/
abbrev afterGrid : Valuation τ sig (Elt Ideal) :=
  Pipeline.withArrays (cfgs 0).spec c (V0 m c) fun w => (dats m 0 c).arrAt w (cfgs 0).N

/-- When the grid is done the word array's buffer holds the words. -/
theorem words_held : afterGrid m c (Proc.tc.devRef main_v1_0) = words (codebook m c) (stack m c) :=
  (Pipeline.withArrays_arr (cfgs 0).spec (by decide) c (V0 m c) (fun w => (dats m 0 c).arrAt w (cfgs 0).N) 2).trans
    (words_array m c)

/-- When the grid is done the second output array's buffer holds the rows. -/
theorem rows_held : afterGrid m c (Proc.tc.devRef main_v1_1) = rows (codebook m c) (stack m c) :=
  (Pipeline.withArrays_arr (cfgs 0).spec (by decide) c (V0 m c) (fun w => (dats m 0 c).arrAt w (cfgs 0).N) 3).trans
    (rows_array m c)

/-- Every execution of the kernel's program ends with `zis` and `zqs` of its arguments as its two results, the
    arguments unchanged. -/
theorem kernel_run (g : Dev nD → PrngReg) :
    θ_run defs (onTc (τ := τ) (main (F := Ideal))) ⟨m, fun _ => 0, g⟩ fun r => ∀ c : Dev nD,
      r.2.mem ((c.tc : Thread nD τ).loc main_v2)
          = zis (m ((c.tc : Thread nD τ).loc main_arg0)) (m ((c.tc : Thread nD τ).loc main_arg1))
        ∧ r.2.mem ((c.tc : Thread nD τ).loc main_v3)
          = zqs (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) := by
  run_from unchanged m g & run_main m g
  · unfold Pipeline.afterTail₀
    simp only [List.flatten_cons, List.flatten_nil, List.append_nil, StableHlo.after_cons, StableHlo.after_nil]
    after_results_simp
    exact (congrArg (fun z => shapeCast S16x32x32 z shapeCasts_S16x1x1024_S16x32x32) (words_held m c)).trans
      (zis_of_words m c)
  · unfold Pipeline.afterTail₀
    simp only [List.flatten_cons, List.flatten_nil, List.append_nil, StableHlo.after_cons, StableHlo.after_nil]
    after_results_simp
    exact (congrArg (fun z => shapeCast S16x64x32x32 z shapeCasts_S16x64x1024_S16x64x32x32) (rows_held m c)).trans
      (zqs_of_rows m c)

end Cert.Vq
-- ==== Proof.Reference.lean ====
module

public import proofs.«01_k».proof.Defs
public import proofs.«01_k».proof.Proof.Gen.ReferenceIdeal
public import proofs.«01_k».proof.Proof.Spec
public import Idealize.ShloMosaic.Lib.Pointwise

@[expose] public section

set_option maxRecDepth 16384

noncomputable section

namespace Cert.Vq

open Idealize.ShloMosaic Cert.ReferenceIdeal Cert.ReferenceIdeal.Gen

/-! # What the reference computes

The reference lists the 16384 pixels one after another, takes each one's squared distance to each code, the first
smallest position of every row, and multiplies the rows' indicators by the codebook. -/

/-- The vector of pixel `n` of the 16384, the image first, then its row, then its column. -/
def listed (x : S16x64x32x32.Idx → EReal) (n : Fin 16384) : Fin 64 → EReal :=
  vectorAt x ⟨n.val / 1024, by omega⟩ ⟨n.val / 32 % 32, by omega⟩ ⟨n.val % 32, by omega⟩

/-- The vectors as the rows of a table. -/
def listing (x : S16x64x32x32.Idx → EReal) : S16384x64.Idx → EReal :=
  shapeCast S16384x64 (transpose S16x32x32x64 [0, 2, 3, 1] x transposes_S16x64x32x32_S16x32x32x64_0_2_3_1)
    shapeCasts_S16x32x32x64_S16384x64

/-- A row of the table is the pixel's vector. -/
theorem listing_at (x : S16x64x32x32.Idx → EReal) (n : Fin 16384) (d : Fin 64) :
    listing x (ix2 n d) = listed x n d := by
  unfold listing listed vectorAt
  pointwise

/-- The reference's table of squared distances, as its operations compose. -/
def distances (x : S16x64x32x32.Idx → EReal) (cb : S1024x64.Idx → EReal) : FVec Ideal S16384x1024 .f32 :=
  subf
    (addf
      (broadcastInDim S16384x1024 ![0, 1] bcast_S16384x1_S16384x1024_0_1
        (broadcastInDim S16384x1 ![0] bcast_S16384_S16384x1_0
          (Host.reduceAdd (mulf (φ := .f32) (F := Ideal) (listing x) (listing x)) (constant S_ .f32 0x00000000#32)
            reducesTo_S16384x64_S16384_d1 h_S_)))
      (broadcastInDim S16384x1024 ![0, 1] bcast_S1x1024_S16384x1024_0_1
        (broadcastInDim S1x1024 ![1] bcast_S1024_S1x1024_1
          (Host.reduceAdd (mulf (φ := .f32) (F := Ideal) cb cb) (constant S_ .f32 0x00000000#32)
            reducesTo_S1024x64_S1024_d1 h_S_))))
    (mulf (broadcastInDim S16384x1024 ![] bcast_S_S16384x1024 (constant S_ .f32 0x40000000#32))
      (Host.dotGeneral (φ₁ := .f32) (φ₂ := .f32) dot_S16384x64_S64x1024_S16384x1024_1_0_0_1_n_n none (listing x)
        (transpose S64x1024 [1, 0] cb transposes_S1024x64_S64x1024_1_0)))

/-- The table's entries are the squared distances of the pixels' vectors to the codes. -/
theorem distances_at (x : S16x64x32x32.Idx → EReal) (cb : S1024x64.Idx → EReal) (n : Fin 16384) (k : Fin 1024) :
    distances x cb (ix2 n k) = sqDist (listed x n) (codeRow cb k) := by
  unfold distances
  pointwise
  simp only [listing_at, ofBits_two]
  rfl

/-- The reducer of the reference's argmin picks the lesser pair. -/
theorem reducer_eq : (reducer_argmin_f32_i32 (F := Ideal)) = lesser := by
  funext a b
  unfold reducer_argmin_f32_i32 lesser
  obtain ⟨a₁, a₂⟩ := a
  obtain ⟨b₁, b₂⟩ := b
  have hlt : FloatOps.cmpf (F := Ideal) (φ := .f32) .olt a₁ b₁ = BitVec.ofBool (decide (a₁ < b₁)) := rfl
  have hne : FloatOps.cmpf (F := Ideal) (φ := .f32) .une a₁ a₁ = BitVec.ofBool (decide (a₁ ≠ a₁)) := rfl
  have heq : FloatOps.cmpf (F := Ideal) (φ := .f32) .oeq a₁ b₁ = BitVec.ofBool (decide (a₁ = b₁)) := rfl
  have hs : IntOp.cmpi .slt a₂ b₂ = BitVec.ofBool (a₂.slt b₂) := rfl
  simp only [hlt, hne, heq, hs, BitVec.slt_eq_decide]
  by_cases h : a₁ < b₁
  · simp [h, ne_of_lt h, IntOp.ori, IntOp.andi, Scalar.select]
  · by_cases e : a₁ = b₁
    · subst e
      by_cases k : a₂.toInt < b₂.toInt <;> simp [k, IntOp.ori, IntOp.andi, Scalar.select]
    · simp [h, e, IntOp.ori, IntOp.andi, Scalar.select]

/-- The fold of the reference's argmin over a row is the word of the row's first smallest position. -/
theorem argmin_at (D : FVec Ideal S16384x1024 .f32) (n : Fin 16384) :
    (Host.argReduce (F := Ideal) reducer_argmin_f32_i32 D (iotaInDim S16384x1024 32 1) (constant S_ .f32 0x7F800000#32)
      (constantI S_ 32 0#32) reducesTo_S16384x1024_S16384_d1 h_S_ (ix1 n)).2
      = BitVec.ofNat 32 (nearest fun k => D (ix2 n k)).val := by
  rw [Ideal.argReduce_eq_reduce2, Host.reduce2_eq_foldl_fiber, reducer_eq]
  have h0 : (constant (F := Ideal) S_ .f32 0x7F800000#32) (Shape.Idx.first h_S_) = (⊤ : EReal) := ofBits_inf
  rw [h0]
  refine foldl_lesser_nearest (fun k => D (ix2 n k)) _ fun q => ?_
  unfold Host.argReduceFiber
  simp only [List.mem_map, List.mem_filter, List.mem_finRange, true_and, decide_eq_true_eq]
  constructor
  · rintro ⟨a, ha, rfl⟩
    obtain ⟨k, hk⟩ := (reducesTo_S16384x1024_S16384_d1.fiber_r2_a1 _ _).mp ha
    exact ⟨k, congrArg (fun i => (D i, iotaInDim S16384x1024 32 1 i)) hk⟩
  · rintro ⟨k, rfl⟩
    refine ⟨S16384x1024.rowMajor (ix2 n k), ?_, ?_⟩
    · rw [Equiv.symm_apply_apply]
      exact (reducesTo_S16384x1024_S16384_d1.fiber_r2_a1 _ _).mpr ⟨k, rfl⟩
    · rw [Equiv.symm_apply_apply]
      rfl

/-- The position of every listed pixel: the word of the first nearest code. -/
def positions (x : S16x64x32x32.Idx → EReal) (cb : S1024x64.Idx → EReal) : IVec S16384 32 :=
  fun j => BitVec.ofNat 32 (nearestCode cb (listed x (j 0))).val

/-- The reference's argmin over the table of squared distances holds the positions. -/
theorem argmin_distances (x : S16x64x32x32.Idx → EReal) (cb : S1024x64.Idx → EReal) :
    (fun j => (Host.argReduce (F := Ideal) reducer_argmin_f32_i32 (distances x cb) (iotaInDim S16384x1024 32 1)
      (constant S_ .f32 0x7F800000#32) (constantI S_ 32 0#32) reducesTo_S16384x1024_S16384_d1 h_S_ j).2)
      = positions x cb := by
  funext j
  idx_vars j
  rw [argmin_at]
  simp only [distances_at]
  rfl

/-- The positions as the images' pixels are the first result. -/
theorem positions_zis (x : S16x64x32x32.Idx → EReal) (cb : S1024x64.Idx → EReal) :
    shapeCast S16x32x32 (positions x cb) shapeCasts_S16384_S16x32x32 = zis x cb := by
  funext j
  idx_vars j
  pointwise
  have h : listed x ⟨j0.val * 1024 + j1.val * 32 + j2.val, by omega⟩ = vectorAt x j0 j1 j2 := by
    unfold listed
    congr 1 <;> apply Fin.ext <;> simp only <;> omega
  exact congrArg (fun z => BitVec.ofNat 32 (nearestCode cb z).val) h

/-- The reference's rows: the indicators of the positions times the codebook. -/
def chosen (P : IVec S16x32x32 32) (cb : S1024x64.Idx → EReal) : FVec Ideal S16x64x32x32 .f32 :=
  transpose S16x64x32x32 [0, 3, 1, 2]
    (shapeCast S16x32x32x64
      (Host.dotGeneral (φ₁ := .f32) (φ₂ := .f32) dot_S16384x1024_S1024x64_S16384x64_1_0_0_1_n_n none
        (uitofp (F := Ideal) .f32
          (cmpi .eq
            (broadcastInDim S16384x1024 ![0, 1] bcast_S16384x1_S16384x1024_0_1
              (broadcastInDim S16384x1 ![0] bcast_S16384_S16384x1_0
                (shapeCast S16384 P shapeCasts_S16x32x32_S16384)))
            (broadcastInDim S16384x1024 ![0, 1] bcast_S1x1024_S16384x1024_0_1 (iotaInDim S1x1024 32 1))))
        cb)
      shapeCasts_S16384x64_S16x32x32x64)
    transposes_S16x32x32x64_S16x64x32x32_0_3_1_2

/-- The comparison of a position's word with another's, as a float, is 1 where they are the same and 0 elsewhere. -/
theorem indicator_at (n k : Fin 1024) :
    (FloatOps.uitofp .f32 (IntOp.cmpi .eq (BitVec.ofNat 32 n.val) (BitVec.ofNat 32 k.val)) : Ideal .f32)
      = (if k = n then 1 else 0 : EReal) := by
  show (((((BitVec.ofBool (BitVec.ofNat 32 n.val == BitVec.ofNat 32 k.val)).toNat : ℝ)) : EReal)) = _
  by_cases h : k = n
  · simp [h]
  · have := mt (word_eq_iff n k).mp (Ne.symm h)
    simp only [beq_eq_false_iff_ne.mpr this, if_neg h]
    simp

/-- The rows chosen by the first result are the second result. -/
theorem chosen_zqs (x : S16x64x32x32.Idx → EReal) (cb : S1024x64.Idx → EReal) :
    chosen (zis x cb) cb = zqs x cb := by
  funext j
  idx_vars j
  unfold chosen
  pointwise
  have h (k : Fin 1024) : (FloatOps.uitofp .f32 (IntOp.cmpi .eq (zis x cb (ix3 j0 j2 j3)) (BitVec.ofNat 32 k.val)) : Ideal .f32)
      = (if k = nearestCode cb (vectorAt x j0 j2 j3) then 1 else 0 : EReal) :=
    indicator_at _ k
  simp only [h, mul_comm _ (cb _)]
  exact sum_indicator (fun k => cb (ix2 k j1)) _

end Cert.Vq
-- ==== Proof.RefRun.lean ====
module

public import proofs.«01_k».proof.Defs
public import proofs.«01_k».proof.Proof.Gen.ReferenceIdeal
public import proofs.«01_k».proof.Proof.Reference
public import Idealize.ShloMosaic.Lib.Claim

@[expose] public section

set_option maxRecDepth 16384

noncomputable section

namespace Cert.Vq

open Idealize.ShloMosaic Idealize.SL.Sem Idealize.ShloMosaic.TcCoe Cert.ReferenceIdeal Cert.ReferenceIdeal.Gen

/-! # The reference's run

The reference is a straight line of operations. The line is read in three stages: the table of squared distances, the
positions of its rows' smallest entries, and the two results made of the positions. -/

/-- A straight line of operations is its first `n` and then the others. -/
theorem after_split (n : Nat) (ops : List (HloOp τ sig (Elt Ideal))) (V : Valuation τ sig (Elt Ideal)) :
    StableHlo.after ops V = StableHlo.after (ops.drop n) (StableHlo.after (ops.take n) V) := by
  induction n generalizing ops V with
  | zero => rfl
  | succ n ih =>
    cases ops with
    | nil => rfl
    | cons op ops => exact ih ops _

/-- What the first `n` operations of a line leave, and the whole line's contents as the others leave them after it. -/
theorem stage (n : Nat) (ops : List (HloOp τ sig (Elt Ideal))) (V : Valuation τ sig (Elt Ideal)) :
    ∃ W, W = StableHlo.after (ops.take n) V ∧ StableHlo.after ops V = StableHlo.after (ops.drop n) W :=
  ⟨_, rfl, after_split n ops V⟩

/-- The table's buffer read at its own type is what it holds. -/
theorem ofBuf_v15 (h₁ : main_v15.ty = ⟨S16384x1024, .f32⟩) (h₂ : main_v15.space ≠ .host) (h₃ : main_v15.isScoped = false)
    (x : main_v15.ty.Contents (Elt Ideal)) : (StableHlo.TRef.of main_v15 h₁ h₂ h₃).ofBuf x = x := by exact id rfl

/-- The positions written at their buffer's own type are what the buffer holds. -/
theorem toBuf_v16 (h₁ : main_v16.ty = ⟨S16384, .i32⟩) (h₂ : main_v16.space ≠ .host) (h₃ : main_v16.isScoped = false)
    (x : (⟨S16384, .i32⟩ : BufTy).Contents (Elt Ideal)) : (StableHlo.TRef.of main_v16 h₁ h₂ h₃).toBuf x = x := by exact id rfl

/-- The buffer of the listed positions read at its own type is what it holds. -/
theorem ofBuf_v18 (h₁ : main_v18.ty = ⟨S16384, .i32⟩) (h₂ : main_v18.space ≠ .host) (h₃ : main_v18.isScoped = false)
    (x : main_v18.ty.Contents (Elt Ideal)) : (StableHlo.TRef.of main_v18 h₁ h₂ h₃).ofBuf x = x := by exact id rfl

/-- The indicators written at their buffer's own type are what the buffer holds. -/
theorem toBuf_v19 (h₁ : main_v19.ty = ⟨S16384x1024, .f32⟩) (h₂ : main_v19.space ≠ .host) (h₃ : main_v19.isScoped = false)
    (x : (⟨S16384x1024, .f32⟩ : BufTy).Contents (Elt Ideal)) : (StableHlo.TRef.of main_v19 h₁ h₂ h₃).toBuf x = x := by
  exact id rfl

/-- Every run of the reference leaves the positions of the nearest codes in its first result and the chosen rows of the
codebook in its second, and its arguments unchanged. -/
theorem reference_run (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v17)
          = zis (m ((c.tc : Thread nD τ).loc main_arg0)) (m ((c.tc : Thread nD τ).loc main_arg1))
        ∧ r.2.mem ((c.tc : Thread nD τ).loc main_v22)
          = zqs (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) := by
  refine θ_run_mono (StableHlo.run_hlo _ _ (by hlo_seq) (by decide) (by decide) (by simp)
      (by intro _ h; (repeat (cases h with | head => rfl | tail _ h => ?_)); exact nomatch h) _ _) ?_
  intro r hr c
  have hc := hr c
  clear hr
  obtain ⟨W, hW, e⟩ := stage 19 _ (StableHlo.launchContents m c)
  rw [e] at hc
  clear e
  simp only [List.take] at hW
  simp only [List.drop] at hc
  have h15 : W (Proc.tc.devRef main_v15)
      = distances (m ((c.tc : Thread nD τ).loc main_arg0)) (m ((c.tc : Thread nD τ).loc main_arg1)) := by
    rw [hW]
    after_results_simp
    rfl
  have h0 : W (Proc.tc.devRef main_arg0) = m ((c.tc : Thread nD τ).loc main_arg0) := by
    rw [hW]
    after_results_simp
  have h1 : W (Proc.tc.devRef main_arg1) = m ((c.tc : Thread nD τ).loc main_arg1) := by
    rw [hW]
    after_results_simp
  clear hW
  generalize m ((c.tc : Thread nD τ).loc main_arg0) = x at *
  generalize m ((c.tc : Thread nD τ).loc main_arg1) = cb at *
  obtain ⟨W₂, hW, e⟩ := stage 5 _ W
  rw [e] at hc
  clear e
  simp only [List.take] at hW
  simp only [List.drop] at hc
  have h16 : W₂ (Proc.tc.devRef main_v16) = positions x cb := by
    rw [hW]
    after_results_simp
    rw [toBuf_v16, ofBuf_v15, StableHlo.TRef.ofBuf_toBuf, StableHlo.TRef.ofBuf_toBuf, StableHlo.TRef.ofBuf_toBuf, h15]
    exact argmin_distances x cb
  have h0' : W₂ (Proc.tc.devRef main_arg0) = x := by
    rw [hW]
    after_results_simp
    exact h0
  have h1' : W₂ (Proc.tc.devRef main_arg1) = cb := by
    rw [hW]
    after_results_simp
    exact h1
  clear hW h15 h0 h1
  refine ⟨?_, ?_, ?_, ?_⟩ <;> rw [hc] <;> clear hc <;> after_results_simp
  · rw [h16]
    exact positions_zis x cb
  · rw [h16, h1']
    simp only [StableHlo.TRef.ofBuf_toBuf]
    rw [toBuf_v19, ofBuf_v18]
    exact (congrArg (fun P => chosen P cb) (positions_zis x cb)).trans (chosen_zqs x cb)
  · exact h0'
  · exact h1'

end Cert.Vq
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelRun
public import proofs.«01_k».proof.Proof.RefRun
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- Every claim of the certificate holds. -/
theorem claim : Cert.Claim := ⟨Cert.Kernel.Gen.facts, Cert.KernelIdeal.Gen.facts, Cert.ReferenceIdeal.Gen.facts, by
  refine ⟨?_, ?_, ?_, ?_, ?_⟩
  · exact fun m g _ => Cert.Kernel.Gen.frame m g
  · exact fun m g _ => Cert.KernelIdeal.Gen.frame m g
  · intro m g _
    hlo_run
    · exact fun _ => ⟨trivial, trivial⟩
    · exact sem_eq_zero_of_no_sems (sig := Cert.ReferenceIdeal.sig) rfl _
  · trivial
  · pair_intro
    · run_from Cert.Vq.kernel_run m g
    · run_from Cert.Vq.reference_run m' g'⟩

end Cert.Proof

end
